-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_max_and_labels_not_negative [hPre_finite_max_and_labels_not_negative : Cert.Pre_finite_max_and_labels_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_finite_max_and_labels_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_max_and_labels_not_negative [hPre_finite_max_and_labels_not_negative : Cert.Pre_finite_max_and_labels_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_max_and_labels_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_max_and_labels_not_negative [hKernelIdeal : Cert.KernelIdeal.Facts] [hPre_finite_max_and_labels_not_negative : Cert.Pre_finite_max_and_labels_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_max_and_labels_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_max_and_labels_not_negative [hReferenceIdeal : Cert.ReferenceIdeal.Facts] [hPre_finite_max_and_labels_not_negative : Cert.Pre_finite_max_and_labels_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_max_and_labels_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "fill" .f32 0x3651B8C5#32 ((1 / 319990 : ℝ) : EReal)
  ∧ IdealRules.named_const.Statement Cert.KernelIdeal.κ "fill_term" .f32 0xB8262714#32 (((1 / 319990) * (Real.log (1 / 319990)) : ℝ) : EReal)
  ∧ IdealRules.named_const.Statement Cert.KernelIdeal.κ "conf" .f32 0x3F666666#32 ((9 / 10 : ℝ) : EReal)
  ∧ IdealRules.named_const.Statement Cert.KernelIdeal.κ "conf_term" .f32 0xBDC23354#32 (((9 / 10) * (Real.log (9 / 10)) : ℝ) : EReal)

def algebraic_KernelIdeal_ReferenceIdeal_pre_finite_max_and_labels_not_negative [hKernelIdeal : Cert.KernelIdeal.Facts] [hReferenceIdeal : Cert.ReferenceIdeal.Facts] [hPre_finite_max_and_labels_not_negative : Cert.Pre_finite_max_and_labels_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_max_and_labels_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_max_and_labels_not_negative : Cert.Pre_finite_max_and_labels_not_negative.Facts),
    quiescent_Kernel (hKernel := hKernel)
    ∧ quiescent_KernelIdeal (hKernelIdeal := hKernelIdeal)
    ∧ quiescent_KernelIdeal_pre_finite_max_and_labels_not_negative (hKernelIdeal := hKernelIdeal) (hPre_finite_max_and_labels_not_negative := hPre_finite_max_and_labels_not_negative)
    ∧ quiescent_ReferenceIdeal (hReferenceIdeal := hReferenceIdeal)
    ∧ quiescent_ReferenceIdeal_pre_finite_max_and_labels_not_negative (hReferenceIdeal := hReferenceIdeal) (hPre_finite_max_and_labels_not_negative := hPre_finite_max_and_labels_not_negative)
    ∧ preserves_Kernel_KernelIdeal
    ∧ algebraic_KernelIdeal_ReferenceIdeal_pre_finite_max_and_labels_not_negative (hKernelIdeal := hKernelIdeal) (hReferenceIdeal := hReferenceIdeal) (hPre_finite_max_and_labels_not_negative := hPre_finite_max_and_labels_not_negative)
-- ==== Pre_finite_max_and_labels_not_negative.lean ====
abbrev S4096x32000 : Shape := ⟨2, ![4096, 32000]⟩
abbrev S4096 : Shape := ⟨1, ![4096]⟩
abbrev S_ : Shape := ⟨0, ![]⟩

class Facts : Prop where
  reducesTo_S4096x32000_S4096_d1 : S4096x32000.ReducesTo [1] S4096
  h_S_ : 0 < S_.numel
  bcast_S_S4096 : S_.BroadcastsInDim S4096 (![] : Fin 0 → Fin S4096.rank)

variable [Facts]

def fn {F : FTy → Type} [FloatOps F] (main_arg0 : FVec F S4096x32000 .f32) (main_arg1 : IVec S4096 32) : IVec S4096 1 :=
  let main_cst : FVec F S_ .f32 := constant S_ .f32 0xFF800000#32
  let main_v0 : FVec F S4096 .f32 := (fun x v => Host.reduce FloatOps.maximumf x v reducesTo_S4096x32000_S4096_d1 h_S_) main_arg0 main_cst
  let main_cst_0 : FVec F S_ .f32 := constant S_ .f32 0x7F800000#32
  let main_v1 : FVec F S4096 .f32 := broadcastInDim S4096 ![] bcast_S_S4096 main_cst_0
  let main_v2 : IVec S4096 1 := cmpf .olt main_v0 main_v1
  let main_cst_1 : FVec F S_ .f32 := constant S_ .f32 0xFF800000#32
  let main_v3 : FVec F S4096 .f32 := broadcastInDim S4096 ![] bcast_S_S4096 main_cst_1
  let main_v4 : IVec S4096 1 := cmpf .ogt main_v0 main_v3
  let main_v5 : IVec S4096 1 := andi main_v2 main_v4
  let main_c : IVec S_ 32 := constantI S_ 32 0#32
  let main_v6 : IVec S4096 32 := broadcastInDim S4096 ![] bcast_S_S4096 main_c
  let main_v7 : IVec S4096 1 := cmpi .sge main_arg1 main_v6
  let main_v8 : IVec S4096 1 := andi main_v5 main_v7
  main_v8
-- ==== Kernel.lean ====
abbrev S4096x32000 : Shape := ⟨2, ![4096, 32000]⟩
abbrev S4096 : Shape := ⟨1, ![4096]⟩
abbrev S4096x1 : Shape := ⟨2, ![4096, 1]⟩
abbrev S64x32000 : Shape := ⟨2, ![64, 32000]⟩
abbrev S64x1 : Shape := ⟨2, ![64, 1]⟩
abbrev S64 : Shape := ⟨1, ![64]⟩
abbrev S64x640 : Shape := ⟨2, ![64, 640]⟩

abbrev nBuf : Space → Nat
  | .hbm => 4
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S4096x32000, .f32⟩
  | .local _ .vmem, ⟨0, _⟩ => ⟨S64x32000, .f32⟩
  | .local _ .vmem, ⟨1, _⟩ => ⟨S64x32000, .f32⟩
  | .local _ .vmem, ⟨2, _⟩ => ⟨S64x1, .i32⟩
  | .local _ .vmem, ⟨3, _⟩ => ⟨S64x1, .i32⟩
  | .local _ .vmem, ⟨4, _⟩ => ⟨S64x32000, .f32⟩
  | .local _ .vmem, ⟨5, _⟩ => ⟨S64x32000, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "conf" => some ((9 / 10 : ℝ) : EReal)
  | "conf_term" => some (((9 / 10) * (Real.log (9 / 10)) : ℝ) : EReal)
  | "fill" => some ((1 / 319990 : ℝ) : EReal)
  | "fill_term" => some (((1 / 319990) * (Real.log (1 / 319990)) : ℝ) : EReal)
  | _ => none
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x2 : Shape := ⟨2, ![4096, 2]⟩

abbrev nBuf : Space → Nat
  | .hbm => 48
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S4096x32000, .f32⟩
  | .hbm, ⟨14, _⟩ => ⟨S4096x32000, .f32⟩
  | .hbm, ⟨15, _⟩ => ⟨S4096x32000, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x1, .f32⟩
  | .hbm, ⟨20, _⟩ => ⟨S4096x32000, .f32⟩
  | .hbm, ⟨21, _⟩ => ⟨S4096x32000, .f32⟩
  | .hbm, ⟨22, _⟩ => ⟨S_, .f32⟩
  | .hbm, ⟨23, _⟩ => ⟨S_, .f32⟩
  | .hbm, ⟨24, _⟩ => ⟨S4096x32000, .f32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S4096x1, .i32⟩
  | .hbm, ⟨42, _⟩ => ⟨S4096x2, .i32⟩
  | .hbm, ⟨43, _⟩ => ⟨S4096, .f32⟩
  | .hbm, ⟨44, _⟩ => ⟨S4096x32000, .f32⟩
  | .hbm, ⟨45, _⟩ => ⟨S4096x32000, .f32⟩
  | .hbm, ⟨46, _⟩ => ⟨S4096x32000, .f32⟩
  | .hbm, ⟨47, _⟩ => ⟨S4096x32000, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v2 : Ref sig .tc := ⟨.hbm, 21, rfl⟩
abbrev main_cst_2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_3 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_4 : Ref sig .tc := ⟨.hbm, 33, rfl⟩
abbrev main_v11 : Ref sig .tc := ⟨.hbm, 34, rfl⟩
abbrev main_v12 : Ref sig .tc := ⟨.hbm, 35, rfl⟩
abbrev main_c_5 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]
-- ==== Proof.RowValue.lean ====
/-
  THE ROW'S MATHEMATICS, on the extended reals: nothing here names a program.

  A row `x` of scores over `n` columns has a maximum, a sum of exponentials of the distances below it, and so a
  logarithm of the sum of its exponentials. From them two ways of writing one element of the smoothed cross entropy:
  the reference's `c · (log c − log_softmax x k)` and the kernel's `(c · log c + c · logsumexp x) − c · x k`. They are
  equal wherever the row's maximum is a real number and the weight `c` is a positive real (`element_eq`).
-/
module

public import Idealize.ShloMosaic.PureOps.Ideal
public import Idealize.ShloMosaic.PureOps.Ideal.Laws

@[expose] public section

noncomputable section

namespace Cert.SmoothedLoss

open Idealize.ShloMosaic

variable {n : Nat}

/-- The greatest score of a row (`⊥` for a row with nothing above it). -/
def rowMax (x : Fin n → EReal) : EReal := Finset.univ.fold max ⊥ x

/-- The sum over a row of the exponentials of the scores less the row's maximum. -/
def rowSum (x : Fin n → EReal) : EReal := ∑ k, Ideal.exp (x k - rowMax x)

/-- The logarithm of the sum of a row's exponentials, as the kernel computes it. -/
def rowLse (x : Fin n → EReal) : EReal := rowMax x + Ideal.log (rowSum x)

/-- One element as the kernel computes it, from the weight `c` and the term `d` it adds for `c · log c`. -/
def kernelElement (c d : EReal) (x : Fin n → EReal) (k : Fin n) : EReal := (d + c * rowLse x) - c * x k

/-- One element as the reference computes it: the weight times the difference of its logarithm and the log softmax. -/
def referenceElement (c : EReal) (x : Fin n → EReal) (k : Fin n) : EReal :=
  c * (Ideal.log c - ((x k - rowMax x) - Ideal.log (rowSum x)))

/-- The weight of a label's own column, -/
def conf : ℝ := 9 / 10

/-- and of every other column: a tenth shared by 31999 columns. -/
def fill : ℝ := 1 / 319990

/-- The kernel's element at column `k` of a row whose label is the word `w`. -/
def kernelRow (x : Fin n → EReal) (w : BitVec 32) (k : Fin n) : EReal :=
  if BitVec.ofNat 32 k.val = w then kernelElement (conf : EReal) ((conf * Real.log conf : ℝ) : EReal) x k
  else kernelElement (fill : EReal) ((fill * Real.log fill : ℝ) : EReal) x k

/-- The reference's element at column `k` of a row whose label is the word `w`. -/
def referenceRow (x : Fin n → EReal) (w : BitVec 32) (k : Fin n) : EReal :=
  referenceElement (if BitVec.ofNat 32 k.val = w then (conf : EReal) else (fill : EReal)) x k

/-- Every score is at most the row's maximum. -/
theorem le_rowMax (x : Fin n → EReal) (k : Fin n) : x k ≤ rowMax x :=
  (Finset.le_fold_max _).2 (.inr ⟨k, Finset.mem_univ k, le_rfl⟩)

/-- Some score is the row's maximum, if that is above `⊥`. -/
theorem exists_eq_rowMax (x : Fin n → EReal) (h : rowMax x ≠ ⊥) : ∃ k, x k = rowMax x := by
  rcases (Finset.le_fold_max _).1 (le_refl (rowMax x)) with hb | ⟨k, _, hk⟩
  · exact absurd (le_bot_iff.1 hb) h
  · exact ⟨k, le_antisymm (le_rowMax x k) hk⟩

/-- The exponential of a score below a real number is a nonnegative real, -/
theorem exp_sub_coe {a : EReal} {r : ℝ} (ha : a ≠ ⊤) : ∃ q : ℝ, 0 ≤ q ∧ Ideal.exp (a - (r : EReal)) = (q : EReal) := by
  induction a with
  | bot => exact ⟨0, le_rfl, by rw [EReal.bot_sub]; rfl⟩
  | top => exact absurd rfl ha
  | coe s => exact ⟨Real.exp (s - r), (Real.exp_pos _).le, by rw [← EReal.coe_sub]; rfl⟩

/-- so the sum of exponentials of a row whose maximum is real is a positive real: its terms are nonnegative reals, and
    the maximum's own term is 1. -/
theorem rowSum_pos (x : Fin n → EReal) {r : ℝ} (hr : rowMax x = (r : EReal)) : ∃ s : ℝ, 0 < s ∧ rowSum x = (s : EReal) := by
  have hx (k : Fin n) : x k ≠ ⊤ := fun e => by
    have := le_rowMax x k
    rw [e, hr] at this
    exact absurd (top_le_iff.1 this) (EReal.coe_ne_top r)
  choose q hq0 hq using fun k => exp_sub_coe (r := r) (hx k)
  obtain ⟨k, hk⟩ := exists_eq_rowMax x (hr ▸ EReal.coe_ne_bot r)
  have hqk : q k = 1 := by
    have e := hq k
    rw [hk, hr, ← EReal.coe_sub, sub_self] at e
    have : Ideal.exp ((0 : ℝ) : EReal) = ((Real.exp 0 : ℝ) : EReal) := rfl
    rw [this, Real.exp_zero] at e
    exact (EReal.coe_injective e).symm
  refine ⟨∑ k, q k, ?_, ?_⟩
  · refine Finset.sum_pos' (fun i _ => hq0 i) ⟨k, Finset.mem_univ k, ?_⟩
    rw [hqk]; exact one_pos
  · unfold rowSum
    rw [hr]
    exact (Finset.sum_congr rfl fun i _ => hq i).trans
      (map_sum (⟨⟨fun r : ℝ => (r : EReal), EReal.coe_zero⟩, EReal.coe_add⟩ : ℝ →+ EReal) q Finset.univ).symm

/-- The logarithm of a positive real is the real logarithm. -/
theorem log_coe_pos {s : ℝ} (hs : 0 < s) : Ideal.log (s : EReal) = ((Real.log s : ℝ) : EReal) := by
  show (if s ≤ 0 then (⊥ : EReal) else (Real.log s : EReal)) = _
  rw [if_neg (not_le.2 hs)]

/-- THE EQUATION: at a positive real weight, and a row whose maximum is a real number, the kernel's element with the
    term `c · log c` is the reference's. At a real score this is arithmetic of real numbers; at a score of `⊥` both
    are `⊤`. -/
theorem element_eq (c : ℝ) (hc : 0 < c) (x : Fin n → EReal) (hbot : rowMax x ≠ ⊥) (htop : rowMax x ≠ ⊤) (k : Fin n) :
    kernelElement (c : EReal) ((c * Real.log c : ℝ) : EReal) x k = referenceElement (c : EReal) x k := by
  obtain ⟨r, hr⟩ : ∃ r : ℝ, rowMax x = (r : EReal) := ⟨(rowMax x).toReal, (EReal.coe_toReal htop hbot).symm⟩
  obtain ⟨s, hs, hsum⟩ := rowSum_pos x hr
  have hxk : x k ≠ ⊤ := fun e => by
    have := le_rowMax x k
    rw [e] at this
    exact htop (top_le_iff.1 this)
  unfold kernelElement referenceElement rowLse
  rw [hr, hsum, log_coe_pos hs, log_coe_pos hc]
  generalize x k = a at hxk
  induction a with
  | top => exact absurd rfl hxk
  | bot =>
    rw [EReal.coe_mul_bot_of_pos hc, EReal.bot_sub, EReal.bot_sub, EReal.coe_sub_bot, EReal.coe_mul_top_of_pos hc,
      ← EReal.coe_add, ← EReal.coe_mul, ← EReal.coe_add, EReal.coe_sub_bot]
  | coe y =>
    simp only [← EReal.coe_add, ← EReal.coe_mul, ← EReal.coe_sub]
    congr 1
    ring

/-- So the two rows agree, element by element, whatever the label. -/
theorem row_eq (x : Fin n → EReal) (w : BitVec 32) (hbot : rowMax x ≠ ⊥) (htop : rowMax x ≠ ⊤) (k : Fin n) :
    kernelRow x w k = referenceRow x w k := by
  unfold kernelRow referenceRow
  split
  · exact element_eq conf (by unfold conf; norm_num) x hbot htop k
  · exact element_eq fill (by unfold fill; norm_num) x hbot htop k

end Cert.SmoothedLoss

end
-- ==== Proof.RowReductions.lean ====
/-
  A REDUCTION ALONG THE COLUMNS of an array of `a` rows and `n` columns, read at a row: the kernel's and the host's
  maximum from negative infinity are the row's greatest score, the kernel's and the host's sum from zero the row's sum.
  The sizes are variables: nothing here depends on how many columns a row has.
-/
module

public import proofs.«01_k».proof.Proof.RowValue
public import Idealize.ShloMosaic.Lib.Pointwise

@[expose] public section

noncomputable section

namespace Cert.SmoothedLoss

open Idealize.ShloMosaic

variable {a n : Nat}

/-- The pattern of negative infinity is `⊥`, -/
theorem ofBits_neg_inf : Ideal.ofBits .f32 0xFF800000#32 = ⊥ := by simp [Ideal.ofBits, Ideal.ieee]

/-- and that of positive infinity is `⊤`. -/
theorem ofBits_pos_inf : Ideal.ofBits .f32 0x7F800000#32 = ⊤ := by simp [Ideal.ofBits, Ideal.ieee]

/-- The array's element over row `r` at column `k`. -/
theorem lift_row (h : (⟨2, ![a, n]⟩ : Shape).Reduces [1] ⟨1, ![a]⟩) (r : Fin a) (k : Fin n) : h.lift (ix1 r) k = ix2 r k := by
  funext c
  match c with
  | ⟨0, _⟩ => rfl
  | ⟨1, _⟩ => rfl

/-- The kernel's maximum along the columns, at row `r`. -/
theorem kernelMax_apply (h : (⟨2, ![a, n]⟩ : Shape).Reduces [1] ⟨1, ![a]⟩) (x : FVec Ideal ⟨2, ![a, n]⟩ .f32)
    (hφ : FKind.Formats .f32) (hacc : (0xFF800000#32 : BitVec FTy.f32.bits) = FKind.maximumf.neutral .f32 hφ) (r : Fin a) :
    multiReduction .maximumf [1] ⟨1, ![a]⟩ x 0xFF800000#32 h hφ hacc (ix1 r) = rowMax fun k => x (ix2 r k) := by
  rw [Ideal.multiReduction_maximumf_single]
  show Finset.univ.fold max (Ideal.ofBits .f32 0xFF800000#32) _ = _
  rw [ofBits_neg_inf]
  exact congrArg (fun f => Finset.univ.fold max ⊥ f) (funext fun k => congrArg x (lift_row h r k))

/-- The kernel's sum along the columns, at row `r`. -/
theorem kernelSum_apply (h : (⟨2, ![a, n]⟩ : Shape).Reduces [1] ⟨1, ![a]⟩) (x : FVec Ideal ⟨2, ![a, n]⟩ .f32)
    (hφ : FKind.Formats .f32) (hacc : (0x00000000#32 : BitVec FTy.f32.bits) = FKind.add.neutral .f32 hφ) (r : Fin a) :
    multiReduction .add [1] ⟨1, ![a]⟩ x 0x00000000#32 h hφ hacc (ix1 r) = ∑ k : Fin n, x (ix2 r k) := by
  rw [Ideal.multiReduction_add_single]
  exact Finset.sum_congr rfl fun k _ => congrArg x (lift_row h r k)

/-- The host's maximum along the columns, at row `r`, from an initial value of negative infinity. -/
theorem hostMax_apply {u : Shape} (h : (⟨2, ![a, n]⟩ : Shape).Reduces [1] ⟨1, ![a]⟩) (h' : (⟨2, ![a, n]⟩ : Shape).ReducesTo [1] ⟨1, ![a]⟩)
    (hu : 0 < u.numel) (x : FVec Ideal ⟨2, ![a, n]⟩ .f32) (r : Fin a) :
    Host.reduce (FloatOps.maximumf (F := Ideal) (φ := .f32)) x (constant u .f32 0xFF800000#32) h' hu (ix1 r) = rowMax fun k => x (ix2 r k) := by
  rw [Host.reduce_eq_fold_single _ _ _ h' h]
  show Finset.univ.fold max (Ideal.ofBits .f32 0xFF800000#32) _ = _
  rw [ofBits_neg_inf]
  exact congrArg (fun f => Finset.univ.fold max ⊥ f) (funext fun k => congrArg x (lift_row h r k))

/-- The host's sum along the columns, at row `r`, from an initial value of zero. -/
theorem hostSum_apply {u : Shape} (h : (⟨2, ![a, n]⟩ : Shape).Reduces [1] ⟨1, ![a]⟩) (h' : (⟨2, ![a, n]⟩ : Shape).ReducesTo [1] ⟨1, ![a]⟩)
    (hu : 0 < u.numel) (x : FVec Ideal ⟨2, ![a, n]⟩ .f32) (r : Fin a) :
    Host.reduceAdd x (constant (F := Ideal) u .f32 0x00000000#32) h' hu (ix1 r) = ∑ k : Fin n, x (ix2 r k) := by
  show Ideal.hostReduceAdd h' x (Ideal.ofBits .f32 0x00000000#32) (ix1 r) = _
  rw [Ideal.hostReduceAdd_single h' h, Ideal.ofBits_zero_f32, zero_add]
  exact Finset.sum_congr rfl fun k _ => congrArg x (lift_row h r k)

end Cert.SmoothedLoss

end
-- ==== Proof.Chunk.lean ====
/-
  WHAT ONE BLOCK COMPUTES: the kernel's body on a block of 64 rows by 32000 columns of scores and its 64 labels, read
  at one element. The body stores fifty column chunks of 640; chunk `i` computes the same function at the column offset
  `640 · i` (`chunk`), so the fifty stores are one list over `Fin 50` (`out_eq`), and what they leave is one function of
  the block's row, label and column (`out_apply`).
-/
module

public import proofs.«01_k».proof.Proof.Gen.KernelIdeal.Frame
public import proofs.«01_k».proof.Proof.RowReductions
public import Idealize.ShloMosaic.Lib.Pipeline.Value
public import Idealize.ShloMosaic.Lib.Pointwise
public import Idealize.ShloMosaic.PureOps.IdealRules

@[expose] public section

set_option maxRecDepth 16384

noncomputable section

namespace Cert.KernelIdeal.Loss

open Cert.KernelIdeal Cert.KernelIdeal.Gen Cert.SmoothedLoss Idealize.ShloMosaic Idealize.ShloMosaic.TcCoe
open Idealize.SL.Sem
open Facts

variable {F : FTy → Type} [FloatOps F] [Named F]

/-- One chunk of the body: the columns from `off` on, given the labels, the row terms of the fill weight and of the
    label's weight, and the chunk's scores. -/
def chunk (off : BitVec 32) (lab : IVec S64x1 32) (fillRow confRow : FVec F S64x1 .f32) (xs : FVec F S64x640 .f32) : FVec F S64x640 .f32 :=
  have hit : IVec S64x640 1 := cmpi .eq (addi (broadcast S64x640 off) (iota .tc S64x640 32 [1] iota_S64x640_d1_w32))
    (broadcastTo S64x640 lab broadcasts_S64x1_S64x640)
  subf
    (select hit (broadcastTo S64x640 (shapeCast S64x1 confRow shapeCasts_S64x1_S64x1) broadcasts_S64x1_S64x640)
      (broadcastTo S64x640 (shapeCast S64x1 fillRow shapeCasts_S64x1_S64x1) broadcasts_S64x1_S64x640))
    (mulf (select hit (broadcast S64x640 (Named.named (F := F) κ "conf" (φ := .f32) 0x3F666666#32))
      (broadcast S64x640 (Named.named (F := F) κ "fill" (φ := .f32) 0x3651B8C5#32))) xs)

/-- The columns of chunk `i` are inside the block. -/
theorem chunk_inb (i : Fin 50) : ∀ a, (![0, 640 * i.val] : Fin 2 → Nat) a + S64x640.size a ≤ S64x32000.size a := by
  have := i.isLt
  intro a
  match a with
  | ⟨0, _⟩ => exact Nat.le_of_eq rfl
  | ⟨1, _⟩ => show 640 * i.val + 640 ≤ 32000; omega

/-- The rectangle of chunk `i`: all 64 rows, the columns from `640 · i` to `640 · i + 639`. -/
abbrev chunkRect (i : Fin 50) : Rect S64x32000 := Rect.unit (s := S64x32000) ![0, 640 * i.val] S64x640.size (chunk_inb i)

/-- The store of chunk `i`. -/
def piece (x0 : Vec F S64x32000 .f32) (x1 : Vec F S64x1 .i32) (i : Fin 50) : View.Piece (Elt F) S64x32000 .f32 :=
  ⟨chunkRect i, chunk (BitVec.ofNat 32 (640 * i.val)) (k0_pay79 x0 x1) (k0_pay80 x0 x1) (k0_pay81 x0 x1) (View.ld x0 (chunkRect i))⟩

/-- The body's fifty stores are the fifty chunks, the last one first. -/
theorem out_eq (x0 : Vec F S64x32000 .f32) (x1 : Vec F S64x1 .i32) :
    out0_2 x0 x1 = View.canon ((List.finRange 50).reverse.map (piece x0 x1)) := rfl

/-- The four named constants at `Ideal`: the weight of the label's column, 9/10; -/
theorem named_conf : Named.named (F := Ideal) κ "conf" (φ := .f32) 0x3F666666#32 = (conf : EReal) :=
  IdealRules.named_const.ideal_named_scalar _ _ _ _ rfl

/-- every other column's weight, 1/319990; -/
theorem named_fill : Named.named (F := Ideal) κ "fill" (φ := .f32) 0x3651B8C5#32 = (fill : EReal) :=
  IdealRules.named_const.ideal_named_scalar _ _ _ _ rfl

/-- the label's weight times its logarithm; -/
theorem named_conf_term : Named.named (F := Ideal) κ "conf_term" (φ := .f32) 0xBDC23354#32 = ((conf * Real.log conf : ℝ) : EReal) :=
  IdealRules.named_const.ideal_named_scalar _ _ _ _ rfl

/-- and the other weight times its logarithm. -/
theorem named_fill_term : Named.named (F := Ideal) κ "fill_term" (φ := .f32) 0xB8262714#32 = ((fill * Real.log fill : ℝ) : EReal) :=
  IdealRules.named_const.ideal_named_scalar _ _ _ _ rfl

/-- One value a row, as a column. -/
theorem column_apply {α : Type} (v : S64.Idx → α) (r : Fin 64) : shapeCast S64x1 v shapeCasts_S64_S64x1 (ix2 r 0) = v (ix1 r) := by
  pointwise

/-- One column spread over the block's columns. -/
theorem spread_apply {α : Type} (v : S64x1.Idx → α) (r : Fin 64) (k : Fin 32000) :
    broadcastTo S64x32000 v broadcasts_S64x1_S64x32000 (ix2 r k) = v (ix2 r 0) := by
  pointwise

/-- A row's greatest score plus the logarithm of its sum of exponentials, as the body forms it. -/
theorem lse_apply (x : FVec Ideal S64x32000 .f32) (r : Fin 64) :
    k0_pay3 (F := Ideal) x (ix2 r 0) = rowLse fun k => x (ix2 r k) := by
  have hm := kernelMax_apply (h := reduces_S64x32000_S64) x (.inl rfl) rfl r
  have hs (y : FVec Ideal S64x32000 .f32) := kernelSum_apply (h := reduces_S64x32000_S64) y (.inl rfl) rfl r
  unfold k0_pay3 rowLse
  rw [addf_apply, log_apply, column_apply, column_apply, hm, hs]
  unfold rowSum
  refine congrArg (fun z => rowMax (fun k => x (ix2 r k)) + Ideal.log z) (Finset.sum_congr rfl fun k _ => ?_)
  rw [exp_apply, subf_apply, spread_apply, column_apply, hm]
  rfl

/-- A chunk at row `r` and its column `q`: the row term less the weight times the score, with the label's row term and weight
    when the column's number is the row's label and the others otherwise. -/
theorem chunk_apply (off : BitVec 32) (lab : IVec S64x1 32) (fr cr : FVec Ideal S64x1 .f32) (xs : FVec Ideal S64x640 .f32) (r : Fin 64) (q : Fin 640) :
    chunk off lab fr cr xs (ix2 r q) = if off + BitVec.ofNat 32 q.val = lab (ix2 r 0) then cr (ix2 r 0) - (conf : EReal) * xs (ix2 r q)
      else fr (ix2 r 0) - (fill : EReal) * xs (ix2 r q) := by
  pointwise [chunk, named_conf, named_fill]
  show Scalar.select (BitVec.ofBool (off + BitVec.ofNat 32 q.val == lab (ix2 r 0))) (cr (ix2 r 0)) (fr (ix2 r 0))
    - Scalar.select (BitVec.ofBool (off + BitVec.ofNat 32 q.val == lab (ix2 r 0))) (conf : EReal) (fill : EReal) * xs (ix2 r q) = _
  by_cases h : off + BitVec.ofNat 32 q.val = lab (ix2 r 0)
  · rw [if_pos h, beq_iff_eq.2 h]; rfl
  · rw [if_neg h, beq_eq_false_iff_ne.2 h]; rfl

/-- A splat's element is its scalar. -/
theorem splat_apply {s : Shape} {α : Type} (v : α) (j : s.Idx) : broadcast s v j = v := rfl

/-- The two row terms the body forms before the chunks: the weight's `c · log c` plus the weight times the row's
    logarithm of the sum of exponentials; of the fill weight, -/
theorem fillRow_apply (x : FVec Ideal S64x32000 .f32) (r : Fin 64) :
    k0_pay4 (F := Ideal) x (ix2 r 0)
      = ((fill * Real.log fill : ℝ) : EReal) + (fill : EReal) * rowLse fun k => x (ix2 r k) := by
  unfold k0_pay4
  rw [addf_apply, mulf_apply, splat_apply, splat_apply, named_fill, named_fill_term, lse_apply]
  rfl

/-- and of the label's weight. -/
theorem confRow_apply (x : FVec Ideal S64x32000 .f32) (r : Fin 64) :
    k0_pay5 (F := Ideal) x (ix2 r 0)
      = ((conf * Real.log conf : ℝ) : EReal) + (conf : EReal) * rowLse fun k => x (ix2 r k) := by
  unfold k0_pay5
  rw [addf_apply, mulf_apply, splat_apply, splat_apply, named_conf, named_conf_term, lse_apply]
  rfl

/-- The offsets of a load of a whole block. -/
theorem hz : (![0, 0] : Fin 2 → Nat) = fun _ => 0 := funext fun a => by fin_cases a <;> rfl

/-- The labels the chunks compare with are the loaded ones. -/
theorem labels_apply (v : IVec S64x1 32) (r : Fin 64) : k0_pay2 (F := Ideal) v (ix2 r 0) = v (ix2 r 0) := by
  pointwise [k0_pay2]

/-- Column `q` of chunk `i` is the block's column `640 · i + q`. -/
theorem chunk_emb (i : Fin 50) (r : Fin 64) (q : Fin 640) :
    (chunkRect i).emb (ix2 r q) = ix2 r ⟨640 * i.val + q.val, by omega⟩ := by
  funext c
  apply Fin.ext
  match c with
  | ⟨0, _⟩ => show 0 + 1 * r.val = r.val; omega
  | ⟨1, _⟩ => show 640 * i.val + 1 * q.val = 640 * i.val + q.val; omega

/-- What the body leaves at an element of the block, from the block's scores and labels. -/
def blockValue (x0 : FVec Ideal S64x32000 .f32) (x1 : IVec S64x1 32) (y : S64x32000.Idx) : EReal :=
  kernelRow (fun k : Fin 32000 => x0 (ix2 (y 0) k)) (x1 (ix2 (y 0) 0)) (y 1)

/-- Chunk `i`'s store, at an element of the chunk, is the block's value there. -/
theorem piece_apply (x0 : FVec Ideal S64x32000 .f32) (x1 : IVec S64x1 32) (i : Fin 50) (j : (chunkRect i).shape.Idx) :
    (piece (F := Ideal) x0 x1 i).2 j = blockValue x0 x1 ((chunkRect i).emb j) := by
  obtain ⟨r, q, rfl⟩ : ∃ (r : Fin 64) (q : Fin 640), j = ix2 r q := ⟨j 0, j 1, eq_ix2 j⟩
  rw [chunk_emb]
  unfold piece k0_pay79 k0_pay80 k0_pay81
  rw [View.ld_unit_zero hz, View.ld_unit_zero hz]
  refine (chunk_apply _ _ _ _ _ r q).trans ?_
  rw [labels_apply, fillRow_apply, confRow_apply]
  have hx : View.ld (Val := Elt Ideal) (e' := .f32) x0 (chunkRect i) (ix2 r q) = x0 (ix2 r ⟨640 * i.val + q.val, by omega⟩) :=
    congrArg x0 (chunk_emb i r q)
  rw [hx, ← BitVec.ofNat_add]
  rfl

/-- THE BLOCK: what the body leaves in the block it writes is `blockValue` at every element: each of its fifty stores agrees
    with it, and every column is in one of the fifty chunks. -/
theorem out_apply (x0 : FVec Ideal S64x32000 .f32) (x1 : IVec S64x1 32) (y : S64x32000.Idx) :
    out0_2 (F := Ideal) x0 x1 y = blockValue x0 x1 y := by
  rw [out_eq]
  refine View.canon_apply_of_pieces (Val := Elt Ideal) (e := .f32) (blockValue x0 x1) _ (fun p hp => ?_) y ?_
  · obtain ⟨i, _, rfl⟩ := List.mem_map.1 hp
    exact piece_apply x0 x1 i
  · have h0 : (y 0 : Nat) < 64 := (y 0).isLt
    have h1 : (y 1 : Nat) < 32000 := (y 1).isLt
    refine ⟨_, List.mem_map.2 ⟨⟨(y 1 : Nat) / 640, by omega⟩, List.mem_reverse.2 (List.mem_finRange _), rfl⟩, ?_⟩
    show y ∈ (chunkRect _).set
    rw [Rect.mem_set_unit]
    intro a
    match a with
    | ⟨0, _⟩ => show 0 ≤ (y 0 : Nat) ∧ (y 0 : Nat) < 0 + 64; omega
    | ⟨1, _⟩ =>
      show 640 * ((y 1 : Nat) / 640) ≤ (y 1 : Nat) ∧ (y 1 : Nat) < 640 * ((y 1 : Nat) / 640) + 640
      omega

end Cert.KernelIdeal.Loss

end
-- ==== Proof.ArrayValue.lean ====
/-
  WHAT THE ARRAY HOLDS after the kernel: grid point `t` computes the rows from `64 · t` to `64 · t + 63`, each whole, from
  those rows of the scores and their labels; so block `t` of the result is block `t` of one function of the two argument
  arrays (`lossArray`), and the 64 blocks tile the array.
-/
module

public import proofs.«01_k».proof.Proof.Chunk
public import proofs.«01_k».proof.Proof.Gen.KernelIdeal.Value
public import Idealize.ShloMosaic.Lib.Pipeline.Value

@[expose] public section

set_option maxRecDepth 16384

noncomputable section

namespace Cert.KernelIdeal.Loss

open Cert.KernelIdeal Cert.KernelIdeal.Gen Cert.SmoothedLoss Idealize.ShloMosaic Idealize.ShloMosaic.TcCoe
open Idealize.SL.Sem
open Idealize.ShloMosaic.Pipeline (Dat)
open Facts

variable (m : (ℓ : Loc nD τ sig) → Buf (Elt Ideal) ℓ) (ρ : Dev nD → PrngReg)

/-- The loss array of scores `x` and labels `lab`, in the kernel's writing. -/
def lossArray (x : S4096x32000.Idx → EReal) (lab : S4096.Idx → BitVec 32) (i : S4096x32000.Idx) : EReal :=
  kernelRow (fun k : Fin 32000 => x (ix2 (i 0) k)) (lab (ix1 (i 0))) (i 1)

/-- The labels' column when the kernel is entered: the label array as one column. -/
theorem V_labels (c : Dev nD) :
    V m c main_v0 = shapeCast S4096x1 (m ((c : Thread nD τ).loc main_arg1)) shapeCasts_S4096_S4096x1 := by
  show StableHlo.after hostOps0 _ (Proc.devRef .tc main_v0) = _
  after_results
  rfl

/-- One column of 4096 read at a row. -/
theorem labelColumn_apply {α : Type} (v : S4096.Idx → α) (r : Fin 4096) :
    shapeCast S4096x1 v shapeCasts_S4096_S4096x1 (ix2 r 0) = v (ix1 r) := by
  pointwise

/-- Where the three windows' blocks are at point `t`, block row `t` and block column 0: the scores', -/
theorem index_0 : ∀ t : Fin grid0.N, win0_0.index t 0 = t.val ∧ win0_0.index t 1 = 0 := by decide +kernel
/-- the labels', -/
theorem index_1 : ∀ t : Fin grid0.N, win0_1.index t 0 = t.val ∧ win0_1.index t 1 = 0 := by decide +kernel
/-- and the result's. -/
theorem index_2 : ∀ t : Fin grid0.N, win0_2.index t 0 = t.val ∧ win0_2.index t 1 = 0 := by decide +kernel

/-- Row `r` of point `t`'s block is a row of the array. -/
theorem row_lt (t : Fin grid0.N) (r : Fin 64) : 64 * t.val + r.val < 4096 := by
  have h : t.val < grid0.N := t.isLt
  have hN : grid0.N = 64 := N_0
  omega

/-- The block of scores at point `t`. -/
theorem scores_apply (c : Dev nD) (t : Fin grid0.N) (r : Fin 64) (k : Fin 32000) :
    (iblk m c 0 t : S64x32000.Idx → EReal) (ix2 r k)
      = (m ((c : Thread nD τ).loc main_arg0) : S4096x32000.Idx → EReal) (ix2 ⟨64 * t.val + r.val, row_lt t r⟩ k) := by
  unfold iblk
  rw [View.read_apply]
  show V m c main_arg0 _ = _
  rw [V_main_arg0]
  congr 1
  funext a
  apply Fin.ext
  match a with
  | ⟨0, _⟩ => show win0_0.index t 0 * 64 + 1 * r.val = 64 * t.val + r.val; rw [(index_0 t).1]; omega
  | ⟨1, _⟩ => show win0_0.index t 1 * 32000 + 1 * k.val = k.val; rw [(index_0 t).2]; omega

/-- The block of labels at point `t`. -/
theorem label_apply (c : Dev nD) (t : Fin grid0.N) (r : Fin 64) :
    (iblk m c 1 t : S64x1.Idx → BitVec 32) (ix2 r 0)
      = (m ((c : Thread nD τ).loc main_arg1) : S4096.Idx → BitVec 32) (ix1 ⟨64 * t.val + r.val, row_lt t r⟩) := by
  unfold iblk
  rw [View.read_apply]
  show V m c main_v0 _ = _
  rw [V_labels, ← labelColumn_apply (m ((c : Thread nD τ).loc main_arg1))]
  congr 1
  funext a
  apply Fin.ext
  match a with
  | ⟨0, _⟩ => show win0_1.index t 0 * 64 + 1 * r.val = 64 * t.val + r.val; rw [(index_1 t).1]; omega
  | ⟨1, _⟩ => show win0_1.index t 1 * 1 + 1 * 0 = 0; rw [(index_1 t).2]

/-- What point `t` writes back is block `t` of the loss array. -/
theorem flushed_eq (c : Dev nD) (t : Fin cfg0.N) :
    (dats m 0 c).flushed 2 t = ((cfg0.win 2).blk t).view.read (Elt Ideal)
      (lossArray (m ((c : Thread nD τ).loc main_arg0)) (m ((c : Thread nD τ).loc main_arg1))) := by
  rw [Value.flushed2]
  funext j
  rw [View.read_apply]
  obtain ⟨r, k, rfl⟩ : ∃ (r : Fin 64) (k : Fin 32000), j = ix2 r k := ⟨j 0, j 1, eq_ix2 j⟩
  have he : ((cfg0.win 2).blk t).view.emb (ix2 r k) = ix2 (n0 := 4096) (n1 := 32000) ⟨64 * t.val + r.val, row_lt t r⟩ k := by
    funext a
    apply Fin.ext
    match a with
    | ⟨0, _⟩ => show win0_2.index t 0 * 64 + 1 * r.val = 64 * t.val + r.val; rw [(index_2 t).1]; omega
    | ⟨1, _⟩ => show win0_2.index t 1 * 32000 + 1 * k.val = k.val; rw [(index_2 t).2]; omega
  rw [he]
  refine (out_apply (iblk m c 0 t) (iblk m c 1 t) (ix2 r k)).trans ?_
  show kernelRow (fun k' : Fin 32000 => (iblk m c 0 t : S64x32000.Idx → EReal) (ix2 r k'))
      ((iblk m c 1 t : S64x1.Idx → BitVec 32) (ix2 r 0)) k = _
  rw [label_apply]
  simp only [scores_apply]
  rfl

/-- Every element of the result is in the block of its row's grid point. -/
theorem cover (i : S4096x32000.Idx) :
    ∃ t : Fin cfg0.N, (cfg0.win 2).flush t = true ∧ i ∈ ((cfg0.win 2).blk t).view.set := by
  have h0 : (i 0 : Nat) < 4096 := (i 0).isLt
  have h1 : (i 1 : Nat) < 32000 := (i 1).isLt
  have hN : grid0.N = 64 := N_0
  obtain ⟨t, ht⟩ : ∃ t : Fin grid0.N, t.val = (i 0 : Nat) / 64 := ⟨⟨(i 0 : Nat) / 64, by omega⟩, rfl⟩
  refine ⟨t, flush0_2 t, ?_⟩
  show i ∈ ((View.whole main_v1).slice (win0_2.rect t)).set
  rw [View.set_slice_whole, Rect.mem_set_unit]
  intro a
  match a with
  | ⟨0, _⟩ =>
    show win0_2.index t 0 * 64 ≤ (i 0 : Nat) ∧ (i 0 : Nat) < win0_2.index t 0 * 64 + 64
    rw [(index_2 t).1]; omega
  | ⟨1, _⟩ =>
    show win0_2.index t 1 * 32000 ≤ (i 1 : Nat) ∧ (i 1 : Nat) < win0_2.index t 1 * 32000 + 32000
    rw [(index_2 t).2]; omega

/-- So the result array ends holding the loss array. -/
theorem final (c : Dev nD) : (dats m 0 c).arrAt 2 cfg0.N
    = lossArray (m ((c : Thread nD τ).loc main_arg0)) (m ((c : Thread nD τ).loc main_arg1)) :=
  (dats m 0 c).arrAt_eq_of_cover 2 _ (fun t _ => flushed_eq m c t) cover

/-- THE KERNEL'S RUN, read: the result array at the loss array of the arguments, the arguments unchanged. -/
theorem run : θ_run defs (onTc (τ := τ) (main (F := Ideal))) ⟨m, fun _ => 0, ρ⟩ fun r => ∀ c : Dev nD,
      r.2.mem ((c : Thread nD τ).loc main_v1)
        = lossArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Loss

end
-- ==== Proof.LogSoftmax.lean ====
/-
  THE REFERENCE'S LOG-SOFTMAX, at any number of rows and columns: each step of its text by a name of its own, read at an
  index. Row `r`'s column `k` is the score less the row's greatest, less the logarithm of the row's sum of exponentials.
  The sizes are variables: nothing here depends on how many rows there are or how long one is.
-/
module

public import proofs.«01_k».proof.Proof.RowReductions

@[expose] public section

noncomputable section

namespace Cert.SmoothedLoss

open Idealize.ShloMosaic

/-- A scalar; an array of `a` rows and `n` columns; one value a row; the same as a column. -/
abbrev Scalars : Shape := ⟨0, ![]⟩
abbrev Table (a n : Nat) : Shape := ⟨2, ![a, n]⟩
abbrev Rows (a : Nat) : Shape := ⟨1, ![a]⟩

/-- What the shapes of the steps must satisfy. -/
structure Fits (a n : Nat) : Prop where
  reduces : (Table a n).Reduces [1] (Rows a)
  reducesTo : (Table a n).ReducesTo [1] (Rows a)
  scalar : 0 < Scalars.numel
  fillRows : Scalars.BroadcastsInDim (Rows a) ![]
  toColumn : (Rows a).BroadcastsInDim (Table a 1) ![0]
  alongRow : (Table a 1).BroadcastsInDim (Table a n) ![0, 1]

variable {a n : Nat} (f : Fits a n) (x : FVec Ideal (Table a n) .f32) (r : Fin a) (k : Fin n)

/-- One value a row, as a column. -/
def column {α : Type} (v : (Rows a).Idx → α) : (Table a 1).Idx → α := broadcastInDim (Table a 1) ![0] f.toColumn v

/-- One value a row, at every column of the row. -/
def along {α : Type} (v : (Table a 1).Idx → α) : (Table a n).Idx → α := broadcastInDim (Table a n) ![0, 1] f.alongRow v

/-- Every row's greatest score. -/
def greatest : FVec Ideal (Rows a) .f32 :=
  maximumf (broadcastInDim (Rows a) ![] f.fillRows (constant Scalars .f32 0xFF800000#32))
    (Host.reduce FloatOps.maximumf x (constant Scalars .f32 0xFF800000#32) f.reducesTo f.scalar)

/-- The scores less their row's greatest. -/
def centred : FVec Ideal (Table a n) .f32 := subf x (along f (column f (greatest f x)))

/-- Every row's sum of exponentials. -/
def mass : FVec Ideal (Rows a) .f32 :=
  Host.reduceAdd (Host.exp (centred f x)) (constant Scalars .f32 0x00000000#32) f.reducesTo f.scalar

/-- The logarithm of the softmax of every row. -/
def logSoftmax : FVec Ideal (Table a n) .f32 := subf (centred f x) (along f (Host.log (column f (mass f x))))

/-- A column read at a row. -/
theorem column_apply {α : Type} (v : (Rows a).Idx → α) (z : Fin 1) : column f v (ix2 r z) = v (ix1 r) := by
  unfold column broadcastInDim
  congr 1
  funext c
  match c with
  | ⟨0, _⟩ =>
    apply Fin.ext
    by_cases h : a = 1
    · subst h
      exact congrArg Fin.val (Subsingleton.elim (α := Fin 1) _ _)
    · simp [h]

/-- A column spread along the rows, read at an element. -/
theorem along_apply {α : Type} (v : (Table a 1).Idx → α) : along f v (ix2 r k) = v (ix2 r 0) := by
  unfold along broadcastInDim
  congr 1
  funext c
  match c with
  | ⟨0, _⟩ =>
    apply Fin.ext
    by_cases h : a = 1
    · subst h
      exact congrArg Fin.val (Subsingleton.elim (α := Fin 1) _ _)
    · simp [h]
  | ⟨1, _⟩ => rfl

/-- A row's greatest score. -/
theorem greatest_apply : greatest f x (ix1 r) = rowMax fun k : Fin n => x (ix2 r k) := by
  show max (Ideal.ofBits .f32 0xFF800000#32)
    (Host.reduce FloatOps.maximumf x (constant Scalars .f32 0xFF800000#32) f.reducesTo f.scalar (ix1 r)) = _
  rw [ofBits_neg_inf, hostMax_apply f.reduces]
  exact max_eq_right bot_le

/-- A score less its row's greatest. -/
theorem centred_apply : centred f x (ix2 r k) = x (ix2 r k) - rowMax fun k : Fin n => x (ix2 r k) := by
  show x (ix2 r k) - along f (column f (greatest f x)) (ix2 r k) = _
  rw [along_apply, column_apply, greatest_apply]

/-- A row's sum of exponentials. -/
theorem mass_apply : mass f x (ix1 r) = rowSum fun k : Fin n => x (ix2 r k) := by
  unfold mass
  rw [hostSum_apply f.reduces]
  refine Finset.sum_congr rfl fun k _ => ?_
  show Ideal.exp (centred f x (ix2 r k)) = _
  rw [centred_apply]

/-- The log-softmax at an element. -/
theorem logSoftmax_apply : logSoftmax f x (ix2 r k)
    = (x (ix2 r k) - rowMax fun k : Fin n => x (ix2 r k)) - Ideal.log (rowSum fun k : Fin n => x (ix2 r k)) := by
  show centred f x (ix2 r k) - along f (Host.log (column f (mass f x))) (ix2 r k) = _
  rw [along_apply, centred_apply]
  show _ - Ideal.log (column f (mass f x) (ix2 r 0)) = _
  rw [column_apply, mass_apply]

/-- A target distribution weighted by how far its logarithm is from the log-softmax. -/
def weighted (t : FVec Ideal (Table a n) .f32) : FVec Ideal (Table a n) .f32 :=
  mulf t (subf (Host.log t) (logSoftmax f x))

/-- The same at an element. -/
theorem weighted_apply (t : FVec Ideal (Table a n) .f32) : weighted f x t (ix2 r k)
    = referenceElement (t (ix2 r k)) (fun k : Fin n => x (ix2 r k)) k := by
  show t (ix2 r k) * (Ideal.log (t (ix2 r k)) - logSoftmax f x (ix2 r k)) = _
  rw [logSoftmax_apply]
  rfl

end Cert.SmoothedLoss

end
-- ==== Proof.LabelScatter.lean ====
/-
  WHERE THE REFERENCE'S CONFIDENCES LAND: writing one value for each of `n` pairs of index words into a matrix. Update
  `j` lands at row `r`, column `c` exactly when its two words, read signed, are `r` and `c`; when update `j`'s row word is
  `j` itself, the matrix ends with `v` at column `c` of row `r` if row `r`'s column word is `c`, and as it was elsewhere.
-/
module

public import Idealize.ShloMosaic.Lib.Routing.OpsSet
public import Idealize.ShloMosaic.Lib.Pointwise

@[expose] public section

noncomputable section

namespace Cert.SmoothedLoss

open Idealize.ShloMosaic

variable {n R C w : Nat}

/-- The dimension numbers of a scatter of scalars by pairs of words: no window, both axes named, the words along axis 1. -/
structure ByPairs (d : ScatterDims (⟨2, ![R, C]⟩ : Shape) ⟨2, ![n, 2]⟩ ⟨1, ![n]⟩) : Prop where
  windows : d.updateWindowDims = []
  inserted : d.insertedWindowDims = [0, 1]
  named : d.scatterDimsToOperandDims = [0, 1]
  words : d.indexVectorDim = 1

/-- A scalar's window adds nothing. -/
theorem ByPairs.window_eq {d : ScatterDims (⟨2, ![R, C]⟩ : Shape) ⟨2, ![n, 2]⟩ ⟨1, ![n]⟩} (hd : ByPairs d)
    (j : Fin n) (q : Fin 2) : d.window (ix1 j) q = 0 := by
  unfold ScatterDims.window
  have hq : q ∈ d.insertedWindowDims := by rw [hd.inserted]; fin_cases q <;> simp
  exact dif_neg fun h => (of_decide_eq_true (List.mem_filter.1 h).2) hq

/-- Update `j`'s word for axis `q` is at row `j`, column `q` of the words. -/
theorem ByPairs.siIdx_eq {d : ScatterDims (⟨2, ![R, C]⟩ : Shape) ⟨2, ![n, 2]⟩ ⟨1, ![n]⟩} (hd : ByPairs d)
    (j : Fin n) (q : Fin d.scatterDimsToOperandDims.length) (q' : Fin 2) (hq : q.val = q'.val) :
    d.siIdx (ix1 j) q = ix2 j q' := by
  funext b
  apply Fin.ext
  match b with
  | ⟨0, _⟩ =>
    unfold ScatterDims.siIdx
    rw [dif_neg (by rw [hd.words]; exact (by decide : (0 : ℕ) ≠ 1))]
    unfold ScatterDims.siCoord
    have hone : ∀ u : Fin 1, ((ix1 j : (⟨1, ![n]⟩ : Shape).Idx) u).val = j.val := fun u => by
      rw [Subsingleton.elim u 0]; rfl
    exact hone _
  | ⟨1, _⟩ =>
    unfold ScatterDims.siIdx
    rw [dif_pos (by rw [hd.words])]
    exact hq

/-- Update `j` starts, on axis `q`, at its word for `q`, read signed. -/
theorem ByPairs.start_eq {d : ScatterDims (⟨2, ![R, C]⟩ : Shape) ⟨2, ![n, 2]⟩ ⟨1, ![n]⟩} (hd : ByPairs d)
    (idx : IVec ⟨2, ![n, 2]⟩ w) (j : Fin n) (q : Fin 2) : d.start (ix1 j) idx q = (idx (ix2 j q)).toInt := by
  have hm : q ∈ d.scatterDimsToOperandDims := by rw [hd.named]; fin_cases q <;> simp
  unfold ScatterDims.start
  rw [dif_pos hm, hd.siIdx_eq j _ q]
  show List.idxOf q d.scatterDimsToOperandDims = q.val
  rw [hd.named]
  fin_cases q <;> rfl

/-- Update `j` lands at `(r, c)` exactly when its two words are `r` and `c`. -/
theorem ByPairs.lands_iff {d : ScatterDims (⟨2, ![R, C]⟩ : Shape) ⟨2, ![n, 2]⟩ ⟨1, ![n]⟩} (hd : ByPairs d)
    (idx : IVec ⟨2, ![n, 2]⟩ w) (j : Fin n) (r : Fin R) (c : Fin C) :
    d.resultIdx? (ix1 j) idx = some (ix2 r c)
      ↔ (idx (ix2 j 0)).toInt = r.val ∧ (idx (ix2 j 1)).toInt = c.val := by
  rw [Routing.resultIdx?_eq_some]
  constructor
  · intro h
    have h0 := h 0
    have h1 := h 1
    rw [hd.start_eq, hd.window_eq] at h0 h1
    exact ⟨by simpa using h0, by simpa using h1⟩
  · intro h a
    rw [hd.start_eq, hd.window_eq]
    match a with
    | ⟨0, _⟩ => simpa using h.1
    | ⟨1, _⟩ => simpa using h.2

/-- Writing `v` at column `col j` of every row `j` of a matrix that holds `x0`. -/
theorem ByPairs.scatter_apply {α : Type} {d : ScatterDims (⟨2, ![n, C]⟩ : Shape) ⟨2, ![n, 2]⟩ ⟨1, ![n]⟩} (hd : ByPairs d)
    (x0 : (⟨2, ![n, C]⟩ : Shape).Idx → α) (idx : IVec ⟨2, ![n, 2]⟩ w) (upd : (⟨1, ![n]⟩ : Shape).Idx → α) (v a : α)
    (hupd : ∀ j, upd j = v) (hx0 : ∀ i, x0 i = a)
    (hrow : ∀ j : Fin n, (idx (ix2 j 0)).toInt = j.val) (r : Fin n) (c : Fin C) :
    Host.scatter d (fun _ b => b) x0 idx upd (ix2 r c) = if (idx (ix2 r 1)).toInt = c.val then v else a := by
  split
  · next h => exact Routing.scatter_set_hit d x0 idx upd (ix2 r c) v (fun j _ => hupd j) (ix1 r) ((hd.lands_iff idx r r c).2 ⟨hrow r, h⟩)
  · next h =>
    rw [Routing.scatter_set_miss d x0 idx upd (ix2 r c) ?_, hx0]
    intro k hk
    obtain ⟨j, rfl⟩ : ∃ j : Fin n, k = ix1 j := ⟨k 0, eq_ix1 k⟩
    obtain ⟨h0, h1⟩ := (hd.lands_iff idx j r c).1 hk
    have e : j = r := Fin.ext (by have := hrow j; omega)
    subst e
    exact h h1

end Cert.SmoothedLoss

end
-- ==== Proof.Reference.lean ====
/-
  WHAT THE REFERENCE COMPUTES: at row `r`, column `k`, the smoothed loss of row `r`'s scores with the target distribution
  that is 9/10 at the row's label and 1/319990 at every other token, as Proof/RowValue.lean writes it (`referenceRow`).
  The reference's operations are given short names here, one for each step of its text, and each is read at an index.
-/
module

public import proofs.«01_k».proof.Proof.LogSoftmax
public import proofs.«01_k».proof.Proof.LabelScatter
public import proofs.«01_k».proof.Proof.Gen.ReferenceIdeal.Run

@[expose] public section

set_option maxRecDepth 16384

noncomputable section

namespace Cert.ReferenceIdeal.Loss

open Cert.ReferenceIdeal Cert.ReferenceIdeal.Gen Cert.SmoothedLoss Idealize.ShloMosaic Idealize.ShloMosaic.TcCoe
open Idealize.SL.Sem

/-! ## The steps of the reference -/

/-- The smoothing mass, one tenth. -/
def smoothing : FVec Ideal S_ .f32 := Host.divf (constant S_ .f32 0x3F800000#32) (constant S_ .f32 0x41200000#32)

/-- What is left for the label. -/
def confidence : FVec Ideal S_ .f32 := subf (constant S_ .f32 0x3F800000#32) smoothing

/-- The smoothing mass shared by the other 31999 tokens. -/
def share : FVec Ideal S_ .f32 := Host.divf smoothing (constant S_ .f32 0x46F9FE00#32)

/-- An index word below zero counted from the end of an axis of `len`. -/
def fromEnd (len : BitVec 32) (v : IVec S4096 32) : IVec S4096 32 :=
  select (cmpi .slt v (broadcastInDim S4096 ![] bcast_S_S4096 (constantI S_ 32 0#32)))
    (addi v (broadcastInDim S4096 ![] bcast_S_S4096 (constantI S_ 32 len))) v

/-- The shapes fit. -/
theorem fits : Fits 4096 32000 :=
  ⟨by decide, reducesTo_S4096x32000_S4096_d1, h_S_, bcast_S_S4096, bcast_S4096_S4096x1_0, bcast_S4096x1_S4096x32000_0_1⟩

/-- Each row's place to write: its own number and its label. -/
def places (lab : IVec S4096 32) : IVec S4096x2 32 :=
  concatenate S4096x2 1 [⟨S4096x1, column fits (fromEnd 4096#32 (iotaInDim S4096 32 0))⟩, ⟨S4096x1, column fits (fromEnd 32000#32 lab)⟩]
    concatenates_S4096x1_S4096x1_S4096x2_d1

/-- The target distribution of every row. -/
def target (lab : IVec S4096 32) : FVec Ideal S4096x32000 .f32 :=
  Host.scatter scatter_S4096x32000_S4096x2_S4096_n_01_01_1 (fun _ b => b)
    (broadcastInDim S4096x32000 ![] bcast_S_S4096x32000 share) (places lab) (broadcastInDim S4096 ![] bcast_S_S4096 confidence)

/-- The loss. -/
def loss (x : FVec Ideal S4096x32000 .f32) (lab : IVec S4096 32) : FVec Ideal S4096x32000 .f32 :=
  weighted fits x (target lab)

/-! ## The steps read at an index -/

/-- The patterns of ten and 31999. -/
theorem ofBits_ten : Ideal.ofBits .f32 0x41200000#32 = ((10 : ℝ) : EReal) := by
  simp [Ideal.ofBits, Ideal.ieee]
  rw [← EReal.coe_mul]
  norm_num

/-- (31999 is the number of the other tokens.) -/
theorem ofBits_others : Ideal.ofBits .f32 0x46F9FE00#32 = ((31999 : ℝ) : EReal) := by
  simp [Ideal.ofBits, Ideal.ieee]
  rw [← EReal.coe_mul]
  norm_num

/-- A quotient of reals by a real that is not zero. -/
theorem div_coe (a b : ℝ) (hb : b ≠ 0) : Ideal.div (a : EReal) (b : EReal) = ((a / b : ℝ) : EReal) := by
  have h : (b : EReal) ≠ 0 := by exact_mod_cast hb
  unfold Ideal.div
  rw [if_neg h, ← EReal.coe_inv, ← EReal.coe_mul, div_eq_mul_inv]

/-- The smoothing mass is one tenth; -/
theorem smoothing_apply (i : S_.Idx) : smoothing i = ((1 / 10 : ℝ) : EReal) := by
  show Ideal.div (Ideal.ofBits .f32 0x3F800000#32) (Ideal.ofBits .f32 0x41200000#32) = _
  rw [Ideal.ofBits_one_f32, ofBits_ten, ← EReal.coe_one, div_coe _ _ (by norm_num)]

/-- the confidence is nine tenths; -/
theorem confidence_apply (i : S_.Idx) : confidence i = (conf : EReal) := by
  show Ideal.ofBits .f32 0x3F800000#32 - smoothing i = _
  rw [smoothing_apply, Ideal.ofBits_one_f32, ← EReal.coe_one, ← EReal.coe_sub]
  unfold conf
  norm_num

/-- and every other token's share is 1/319990. -/
theorem share_apply (i : S_.Idx) : share i = (fill : EReal) := by
  show Ideal.div (smoothing i) (Ideal.ofBits .f32 0x46F9FE00#32) = _
  rw [smoothing_apply, ofBits_others, div_coe _ _ (by norm_num)]
  unfold fill
  norm_num

/-- A word that is not negative is kept. -/
theorem fromEnd_apply (len : BitVec 32) (v : IVec S4096 32) (i : S4096.Idx) (h : (v i).toNat < 2 ^ 31) : fromEnd len v i = v i :=
  Routing.wrap_of_lt (v i) (v i + len) h

/-- Row `r`'s first word is `r`, -/
theorem places_row (lab : IVec S4096 32) (r : Fin 4096) : places lab (ix2 r 0) = BitVec.ofNat 32 r.val := by
  have h : places lab (ix2 r 0) = column fits (fromEnd 4096#32 (iotaInDim S4096 32 0)) (ix2 r 0) := by
    unfold places
    pointwise
  have hr : (iotaInDim S4096 32 0 (ix1 r)) = BitVec.ofNat 32 r.val := rfl
  rw [h, column_apply, fromEnd_apply, hr]
  rw [hr, BitVec.toNat_ofNat]
  have := r.isLt
  omega

/-- and its second the row's label, when that is not negative. -/
theorem places_label (lab : IVec S4096 32) (r : Fin 4096) (h : (lab (ix1 r)).toNat < 2 ^ 31) : places lab (ix2 r 1) = lab (ix1 r) := by
  have h' : places lab (ix2 r 1) = column fits (fromEnd 32000#32 lab) (ix2 r 0) := by
    unfold places
    pointwise
  rw [h', column_apply, fromEnd_apply _ _ _ h]

/-- The reference's scatter writes scalars by pairs of words. -/
theorem byPairs : ByPairs scatter_S4096x32000_S4096x2_S4096_n_01_01_1 := ⟨rfl, rfl, rfl, rfl⟩

/-- A word below 2³¹ read signed. -/
theorem toInt_small (w : BitVec 32) (h : w.toNat < 2 ^ 31) : w.toInt = (w.toNat : Int) :=
  WordCmp.toInt_eq_toNat_of_lt_half h

/-- The target distribution, at an element: the confidence at the label, the share elsewhere. -/
theorem target_apply (lab : IVec S4096 32) (r : Fin 4096) (k : Fin 32000) (h : (lab (ix1 r)).toNat < 2 ^ 31) :
    target lab (ix2 r k) = if BitVec.ofNat 32 k.val = lab (ix1 r) then (conf : EReal) else (fill : EReal) := by
  have hk := k.isLt
  have hkn : (BitVec.ofNat 32 k.val).toNat = k.val := by rw [BitVec.toNat_ofNat]; omega
  have hrow : ∀ j : Fin 4096, (places lab (ix2 j 0)).toInt = j.val := fun j => by
    have hj := j.isLt
    have hjn : (BitVec.ofNat 32 j.val).toNat = j.val := by rw [BitVec.toNat_ofNat]; omega
    rw [places_row, toInt_small _ (by omega), hjn]
  refine (byPairs.scatter_apply (broadcastInDim S4096x32000 ![] bcast_S_S4096x32000 share) (places lab)
    (broadcastInDim S4096 ![] bcast_S_S4096 confidence) (conf : EReal) (fill : EReal)
    (fun j => confidence_apply _) (fun i => share_apply _) hrow r k).trans ?_
  rw [places_label lab r h, toInt_small _ h]
  · refine if_congr ⟨fun e => BitVec.eq_of_toNat_eq ?_, fun e => ?_⟩ rfl rfl
    · rw [hkn]; omega
    · rw [← e, hkn]

/-- The reference's loss, at an element. -/
theorem loss_apply (x : FVec Ideal S4096x32000 .f32) (lab : IVec S4096 32) (r : Fin 4096) (k : Fin 32000)
    (h : (lab (ix1 r)).toNat < 2 ^ 31) :
    loss x lab (ix2 r k) = referenceRow (fun k : Fin 32000 => x (ix2 r k)) (lab (ix1 r)) k := by
  unfold loss
  rw [weighted_apply, target_apply lab r k h]
  rfl

/-! ## The run -/

/-- THE REFERENCE'S RUN, read: its result at the loss of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
        = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Value.run (F := Ideal) m ρ)

end Cert.ReferenceIdeal.Loss

end
-- ==== Proof.Precondition.lean ====
/-
  WHAT THE PRECONDITION SAYS, read at a row: the row's greatest score is neither infinity, and the row's label, read as a
  number, is below 2³¹ (its sign bit is clear).
-/
module

public import proofs.«01_k».proof.Proof.RowReductions
public import proofs.«01_k».proof.Proof.Gen.Pre_finite_max_and_labels_not_negative
public import Idealize.ShloMosaic.Lib.WordCmp

@[expose] public section

set_option maxRecDepth 16384

noncomputable section

namespace Cert.SmoothedLoss

open Idealize.ShloMosaic Cert.Pre_finite_max_and_labels_not_negative Cert.Pre_finite_max_and_labels_not_negative.Gen

/-- A conjunction of two bits is one exactly when both are. -/
theorem andi_one (a b : BitVec 1) : IntOp.andi a b = 1#1 ↔ a = 1#1 ∧ b = 1#1 := by
  revert a b
  decide

/-- A word that is not negative read signed is below 2³¹ as a number. -/
theorem toNat_lt_of_signed (w : BitVec 32) (hge : IntOp.cmpi .sge w 0#32 = 1#1) : w.toNat < 2 ^ 31 := by
  have hge' : (0#32 : BitVec 32).toInt ≤ w.toInt := (WordCmp.ofBool_decide_eq_one_iff _).1 hge
  have e0 : (0#32 : BitVec 32).toInt = 0 := by decide
  have hw := w.isLt
  rw [e0, BitVec.toInt_eq_toNat_cond] at hge'
  split at hge' <;> omega

/-- The three comparisons of the predicate, at an index of vectors of any shape. -/
theorem bits_of_one {s : Shape} (μ hi lo : FVec Ideal s .f32) (lab zero : IVec s 32) (i : s.Idx)
    (h : andi (andi (cmpf .olt μ hi) (cmpf .ogt μ lo)) (cmpi .sge lab zero) i = 1#1) :
    (μ i : EReal) < hi i ∧ (lo i : EReal) < μ i ∧ IntOp.cmpi .sge (lab i) (zero i) = 1#1 := by
  have h' : IntOp.andi (IntOp.andi (Ideal.cmp .olt (μ i) (hi i)) (Ideal.cmp .ogt (μ i) (lo i)))
      (IntOp.cmpi .sge (lab i) (zero i)) = 1#1 := h
  rw [andi_one, andi_one] at h'
  obtain ⟨⟨hhi, hlo⟩, hge⟩ := h'
  exact ⟨(WordCmp.ofBool_decide_eq_one_iff _).1 hhi, (WordCmp.ofBool_decide_eq_one_iff _).1 hlo, hge⟩

/-- The predicate's bit at row `r`. -/
theorem pre_row (x : FVec Ideal S4096x32000 .f32) (lab : IVec S4096 32) (r : Fin 4096)
    (h : fn (F := Ideal) x lab (ix1 r) = 1#1) :
    (rowMax fun k : Fin 32000 => x (ix2 r k)) ≠ ⊥ ∧ (rowMax fun k : Fin 32000 => x (ix2 r k)) ≠ ⊤
      ∧ (lab (ix1 r)).toNat < 2 ^ 31 := by
  unfold fn at h
  obtain ⟨htop, hbot, hge⟩ := bits_of_one _ _ _ _ _ _ h
  beta_reduce at htop hbot
  rw [hostMax_apply (by decide)] at htop hbot
  change _ < Ideal.ofBits .f32 0x7F800000#32 at htop
  change Ideal.ofBits .f32 0xFF800000#32 < _ at hbot
  rw [ofBits_pos_inf] at htop
  rw [ofBits_neg_inf] at hbot
  refine ⟨fun e => ?_, fun e => ?_, toNat_lt_of_signed _ hge⟩
  · rw [e] at hbot
    exact not_lt_bot hbot
  · rw [e] at htop
    exact not_top_lt htop

end Cert.SmoothedLoss

end
-- ==== Proof.lean ====
/-
  THE CLAIM OF THE CERTIFICATE, assembled: the three programs' frames, the four constants named, and the equation — under
  the precondition that every row's greatest score is finite and no label is negative, the kernel and the
  reference end with the same loss array.
    Proof/RowValue.lean         the two writings of one element of the loss, and that they are equal
    Proof/RowReductions.lean    a row's greatest score and its sum, as the kernel and as the host take them
    Proof/Chunk.lean            what one block of the kernel computes
    Proof/ArrayValue.lean       what the kernel's result array holds
    Proof/LogSoftmax.lean, Proof/LabelScatter.lean, Proof/Reference.lean
                                what the reference computes
    Proof/Precondition.lean     what the precondition says of a row
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_max_and_labels_not_negative
public import Idealize.ShloMosaic.Adequacy
public import Idealize.ShloMosaic.Init
public import Idealize.ShloMosaic.Lib.Quiescent
public import proofs.«01_k».proof.Proof.Gen.KernelIdeal.Value
public import proofs.«01_k».proof.Proof.Gen.ReferenceIdeal.Run
public import proofs.«01_k».proof.Proof.ArrayValue
public import proofs.«01_k».proof.Proof.Reference
public import proofs.«01_k».proof.Proof.Precondition

@[expose] public section

noncomputable section

namespace Cert.Proof

open Idealize.ShloMosaic Idealize.SL.Sem Cert.SmoothedLoss

attribute [local instance] Cert.Kernel.Gen.facts Cert.KernelIdeal.Gen.facts Cert.ReferenceIdeal.Gen.facts
  Cert.Pre_finite_max_and_labels_not_negative.Gen.facts

/-- The kernel runs, keeps its arguments and ends with every counter at zero. -/
theorem frame_kernel : Cert.quiescent_Kernel := fun m ρ _ => Cert.Kernel.Gen.frame m ρ

/-- So does the kernel with its constants named. -/
theorem frame_kernelIdeal : Cert.quiescent_KernelIdeal := fun m ρ _ => Cert.KernelIdeal.Gen.frame m ρ

/-- And so does the reference, which has no counters. -/
theorem frame_referenceIdeal : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- Each named constant is the one the kernel's table gives. -/
theorem preserves : Cert.preserves_Kernel_KernelIdeal :=
  ⟨IdealRules.named_const.statement Cert.KernelIdeal.κ "fill" .f32 _ _ rfl,
    IdealRules.named_const.statement Cert.KernelIdeal.κ "fill_term" .f32 _ _ rfl,
    IdealRules.named_const.statement Cert.KernelIdeal.κ "conf" .f32 _ _ rfl,
    IdealRules.named_const.statement Cert.KernelIdeal.κ "conf_term" .f32 _ _ rfl⟩

/-- THE EQUATION between the arrays: the reference's loss is the kernel's, when at every row the greatest score is finite
    and the label not negative. -/
theorem loss_eq (x : FVec Ideal Cert.ReferenceIdeal.S4096x32000 .f32) (lab : IVec Cert.ReferenceIdeal.S4096 32)
    (hpre : ∀ r : Fin 4096, Cert.Pre_finite_max_and_labels_not_negative.fn (F := Ideal) x lab (ix1 r) = 1#1) :
    Cert.ReferenceIdeal.Loss.loss x lab = Cert.KernelIdeal.Loss.lossArray x lab := by
  funext i
  obtain ⟨r, k, rfl⟩ : ∃ (r : Fin 4096) (k : Fin 32000), i = ix2 r k := ⟨i 0, i 1, eq_ix2 i⟩
  obtain ⟨hbot, htop, hlab⟩ := pre_row x lab r (hpre r)
  rw [Cert.ReferenceIdeal.Loss.loss_apply x lab r k hlab, ← row_eq _ _ hbot htop k]
  rfl

/-- The kernel and the reference, from the same arguments, end with the same loss array. -/
theorem algebraic : Cert.algebraic_KernelIdeal_ReferenceIdeal_pre_finite_max_and_labels_not_negative :=
  fun m ρ m' ρ' hpre hag =>
    ⟨fun c => Cert.KernelIdeal.Loss.lossArray (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Loss.run m ρ,
      (θ_run Cert.ReferenceIdeal.defs _ _).mono
        (fun _ h c => ⟨(h c).1.trans (by
          rw [(hag c).1, (hag c).2]
          exact loss_eq _ _ fun r => congrFun (hpre c) (ix1 r)), (h c).2⟩)
        (Cert.ReferenceIdeal.Loss.run m' ρ')⟩

/-- Everything claimed, with the side conditions' witnesses first. -/
theorem claim : Cert.Claim :=
  ⟨Cert.Kernel.Gen.facts, Cert.KernelIdeal.Gen.facts, Cert.ReferenceIdeal.Gen.facts,
    Cert.Pre_finite_max_and_labels_not_negative.Gen.facts,
    frame_kernel, frame_kernelIdeal, fun m ρ _ => frame_kernelIdeal m ρ trivial, frame_referenceIdeal,
    fun m ρ _ => frame_referenceIdeal m ρ trivial, preserves, algebraic⟩

end Cert.Proof

end
